-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "inv_std" .f32 0x3F7FFFAC#32 (((Real.sqrt (2097173 / 2097152))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_arg8 : FVec F S128 .f32) (main_arg9 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg3 : FVec F S128 .f32) (main_arg4 : FVec F S128 .f32) (main_arg5 : FVec F S128 .f32) (main_arg7 : FVec F S128 .f32) (main_arg8 : FVec F S128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg3
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg4
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg5
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg3 main_arg4 main_arg5 main_arg7 main_arg8 main_arg9 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1000x128 : Shape := ⟨2, ![1000, 128]⟩
abbrev S1x128 : Shape := ⟨2, ![1, 128]⟩
abbrev S400x10000 : Shape := ⟨2, ![400, 10000]⟩
abbrev S400x128 : Shape := ⟨2, ![400, 128]⟩
abbrev S_ : Shape := ⟨0, ![]⟩
abbrev S1000x10000 : Shape := ⟨2, ![1000, 10000]⟩
abbrev S1000 : Shape := ⟨1, ![1000]⟩
abbrev S1000x1 : Shape := ⟨2, ![1000, 1]⟩

abbrev nBuf : Space → Nat
  | .hbm => 22
  | .vmem => 25
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S10000x128, .f32⟩
  | .hbm, ⟨11, _⟩ => ⟨S1x128, .f32⟩
  | .hbm, ⟨12, _⟩ => ⟨S1x128, .f32⟩
  | .hbm, ⟨13, _⟩ => ⟨S1x128, .f32⟩
  | .hbm, ⟨14, _⟩ => ⟨S10000x128, .fp8e4m3⟩
  | .hbm, ⟨15, _⟩ => ⟨S10000x10000, .fp8e4m3⟩
  | .hbm, ⟨16, _⟩ => ⟨S_, .f32⟩
  | .hbm, ⟨17, _⟩ => ⟨S1x128, .f32⟩
  | .hbm, ⟨18, _⟩ => ⟨S1x128, .f32⟩
  | .hbm, ⟨19, _⟩ => ⟨S1x128, .f32⟩
  | .hbm, ⟨20, _⟩ => ⟨S1x128, .f32⟩
  | .hbm, ⟨21, _⟩ => ⟨S10000x128, .f32⟩
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S1000x128, .f32⟩
  | .local _ .vmem, ⟨4, _⟩ => ⟨S1000x128, .f32⟩
  | .local _ .vmem, ⟨5, _⟩ => ⟨S400x10000, .f32⟩
  | .local _ .vmem, ⟨6, _⟩ => ⟨S400x10000, .f32⟩
  | .local _ .vmem, ⟨7, _⟩ => ⟨S10000x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S128x128, .f32⟩
  | .local _ .vmem, ⟨12, _⟩ => ⟨S400x128, .fp8e4m3⟩
  | .local _ .vmem, ⟨13, _⟩ => ⟨S400x128, .fp8e4m3⟩
  | .local _ .vmem, ⟨14, _⟩ => ⟨S400x10000, .fp8e4m3⟩
  | .local _ .vmem, ⟨15, _⟩ => ⟨S400x10000, .fp8e4m3⟩
  | .local _ .vmem, ⟨16, _⟩ => ⟨S1000x10000, .fp8e4m3⟩
  | .local _ .vmem, ⟨17, _⟩ => ⟨S1000x10000, .fp8e4m3⟩
  | .local _ .vmem, ⟨18, _⟩ => ⟨S10000x128, .fp8e4m3⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1000x128, .f32⟩
  | .local _ .vmem, ⟨24, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc1_stg7_0 : Ref sig .tc := ⟨.vmem, 14, rfl⟩
abbrev cc1_stg7_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg6_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc1_sem7_0 : DmaSem sig := 14
abbrev cc1_sem7_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem6_1 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S400x128 .fp8e4m3 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S400x10000 .fp8e4m3 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x10000 .fp8e4m3 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .fp8e4m3 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]
-- ==== KernelIdeal.lean ====
variable {F : FTy → Type} [FloatOps F] [Named F]
def κ : String → Option EReal := fun
  | "inv_std" => some (((Real.sqrt (2097173 / 2097152))⁻¹ : ℝ) : EReal)
  | _ => none
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩
abbrev S10000 : Shape := ⟨1, ![10000]⟩
abbrev S10000x1 : Shape := ⟨2, ![10000, 1]⟩

abbrev nBuf : Space → Nat
  | .hbm => 60
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S10000x128, .f32⟩
  | .hbm, ⟨11, _⟩ => ⟨S10000x128, .f32⟩
  | .hbm, ⟨12, _⟩ => ⟨S1x128, .f32⟩
  | .hbm, ⟨13, _⟩ => ⟨S10000x128, .f32⟩
  | .hbm, ⟨14, _⟩ => ⟨S10000x128, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S10000x128, .f32⟩
  | .hbm, ⟨19, _⟩ => ⟨S10000x128, .f32⟩
  | .hbm, ⟨20, _⟩ => ⟨S1x128, .f32⟩
  | .hbm, ⟨21, _⟩ => ⟨S10000x128, .f32⟩
  | .hbm, ⟨22, _⟩ => ⟨S10000x128, .f32⟩
  | .hbm, ⟨23, _⟩ => ⟨S1x128, .f32⟩
  | .hbm, ⟨24, _⟩ => ⟨S10000x128, .f32⟩
  | .hbm, ⟨25, _⟩ => ⟨S10000x128, .f32⟩
  | .hbm, ⟨26, _⟩ => ⟨S_, .f32⟩
  | .hbm, ⟨27, _⟩ => ⟨S10000x128, .f32⟩
  | .hbm, ⟨28, _⟩ => ⟨S10000x128, .f32⟩
  | .hbm, ⟨29, _⟩ => ⟨S10000x128, .f32⟩
  | .hbm, ⟨30, _⟩ => ⟨S10000x128, .f32⟩
  | .hbm, ⟨31, _⟩ => ⟨S1x128, .f32⟩
  | .hbm, ⟨32, _⟩ => ⟨S10000x128, .f32⟩
  | .hbm, ⟨33, _⟩ => ⟨S10000x128, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S10000x128, .f32⟩
  | .hbm, ⟨38, _⟩ => ⟨S10000x128, .f32⟩
  | .hbm, ⟨39, _⟩ => ⟨S1x128, .f32⟩
  | .hbm, ⟨40, _⟩ => ⟨S10000x128, .f32⟩
  | .hbm, ⟨41, _⟩ => ⟨S10000x128, .f32⟩
  | .hbm, ⟨42, _⟩ => ⟨S1x128, .f32⟩
  | .hbm, ⟨43, _⟩ => ⟨S10000x128, .f32⟩
  | .hbm, ⟨44, _⟩ => ⟨S10000x128, .f32⟩
  | .hbm, ⟨45, _⟩ => ⟨S_, .f32⟩
  | .hbm, ⟨46, _⟩ => ⟨S10000, .f32⟩
  | .hbm, ⟨47, _⟩ => ⟨S_, .f32⟩
  | .hbm, ⟨48, _⟩ => ⟨S10000, .f32⟩
  | .hbm, ⟨49, _⟩ => ⟨S10000, .f32⟩
  | .hbm, ⟨50, _⟩ => ⟨S10000x1, .f32⟩
  | .hbm, ⟨51, _⟩ => ⟨S10000x128, .f32⟩
  | .hbm, ⟨52, _⟩ => ⟨S10000x128, .f32⟩
  | .hbm, ⟨53, _⟩ => ⟨S10000x128, .f32⟩
  | .hbm, ⟨54, _⟩ => ⟨S_, .f32⟩
  | .hbm, ⟨55, _⟩ => ⟨S10000, .f32⟩
  | .hbm, ⟨56, _⟩ => ⟨S10000x1, .f32⟩
  | .hbm, ⟨57, _⟩ => ⟨S10000x1, .f32⟩
  | .hbm, ⟨58, _⟩ => ⟨S10000x128, .f32⟩
  | .hbm, ⟨59, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_call0_cst : Ref sig .tc := ⟨.hbm, 26, rfl⟩
abbrev main_call0_v0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_0 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call1_cst : Ref sig .tc := ⟨.hbm, 45, rfl⟩
abbrev main_call1_v0 : Ref sig .tc := ⟨.hbm, 46, rfl⟩
abbrev main_call1_cst_0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_v6 : Ref sig .tc := ⟨.hbm, 53, rfl⟩
abbrev main_call1_cst_1 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_v31 : Ref sig .tc := ⟨.hbm, 59, rfl⟩

abbrev nD : Nat := 1
abbrev τ : Topo := Topo.v7x

variable {F : FTy → Type} [FloatOps F]
-- ==== Proof.Regions.lean ====
/- What each of the three kernel regions leaves in its result arrays, as a formula in the arrays that the region finds. -/
module

public import proofs.«01_k».proof.Proof.Gen.KernelIdeal.Frame
public import Idealize.ShloMosaic.Lib.Pipeline.ValueKit

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The windows' block indices of the first region, at every grid point. -/
theorem idx0 : ∀ t : Fin cfg0.N, win0_0.index t = ![t.val, 0] ∧ win0_1.index t = ![0, 0] ∧ win0_2.index t = ![t.val, 0] :=
  (by decide +kernel : ∀ t : Fin grid0.N, _)

/-- The windows' block indices of the second region, at every grid point. -/
theorem idx1 : ∀ t : Fin cfg1.N, win1_0.index t = ![t.val, 0] ∧ win1_1.index t = ![0, 0] ∧ win1_2.index t = ![0, 0]
    ∧ win1_3.index t = ![0, 0] ∧ win1_4.index t = ![0, 0] ∧ win1_5.index t = ![0, 0] ∧ win1_6.index t = ![t.val, 0]
    ∧ win1_7.index t = ![t.val, 0] :=
  (by decide +kernel : ∀ t : Fin grid1.N, _)

/-- The windows' block indices of the third region, at every grid point. -/
theorem idx2 : ∀ t : Fin cfg2.N, win2_0.index t = ![t.val, 0] ∧ win2_1.index t = ![0, 0] ∧ win2_2.index t = ![0, 0]
    ∧ win2_3.index t = ![0, 0] ∧ win2_4.index t = ![0, 0] ∧ win2_5.index t = ![0, 0] ∧ win2_6.index t = ![t.val, 0] :=
  (by decide +kernel : ∀ t : Fin grid2.N, _)

/-- The product `X W` of the first region, entry by entry. -/
def prod (X : FVec Ideal S10000x128 .f32) (W : FVec Ideal S128x128 .f32) : FVec Ideal S10000x128 .f32 :=
  fun i => ∑ k : Fin 128, X (ix2 (i 0) k) * W (ix2 k (i 1))

theorem final0 (c : Dev nD) : (dat0 V c).arrAt 2 cfg0.N = prod (V c main_arg0) (V c main_arg2) := by
  refine (dat0 V c).arrAt_eq_of_covers 2 _ (by decide +kernel) fun t _ y => ?_
  blk_simp
  rw [after0_2]; frame_out
  pointwise [k0_pay1, prod]
  blk_point [iblk0, idx0 t]

/-- The folded batch norm constant, as the idealized kernel names it. -/
def invStd : EReal := Named.named (F := Ideal) (φ := .f32) κ "inv_std" 0x3F7FFFAC#32

/-- The activations of the first layer: the aggregated rows times the folded scale plus the folded shift, cut at zero. -/
def act (A : FVec Ideal S10000x10000 .f32) (S : FVec Ideal S10000x128 .f32) (g b be : FVec Ideal S1x128 .f32) :
    FVec Ideal S10000x128 .f32 := fun i =>
  max ((∑ k : Fin 10000, A (ix2 (i 0) k) * S (ix2 k (i 1))) * (invStd * g (ix2 0 (i 1)))
    + (b (ix2 0 (i 1)) * invStd * g (ix2 0 (i 1)) + be (ix2 0 (i 1)))) 0

/-- The second region's first result: the activations times the second weights, divided by eight. -/
def scaled (H : FVec Ideal S10000x128 .f32) (W : FVec Ideal S128x128 .f32) : FVec Ideal S10000x128 .fp8e4m3 := fun i =>
  (∑ k : Fin 128, H (ix2 (i 0) k) * W (ix2 k (i 1))) * Ideal.ofBits .f32 0x3E000000#32

/-- What the third region takes the log-softmax of: the aggregated rows times eight times the folded scale, plus the
    folded shift. -/
def logits (A : FVec Ideal S10000x10000 .fp8e4m3) (S : FVec Ideal S10000x128 .fp8e4m3) (g b be one : FVec Ideal S1x128 .f32) :
    FVec Ideal S10000x128 .f32 := fun i =>
  (∑ k : Fin 10000, A (ix2 (i 0) k) * S (ix2 k (i 1)))
      * (Ideal.ofBits .f32 0x41000000#32 * (invStd * g (ix2 0 (i 1))) * one (ix2 0 (i 1)))
    + (b (ix2 0 (i 1)) * invStd * g (ix2 0 (i 1)) + be (ix2 0 (i 1)))

/-- The log-softmax of a row as the kernel computes it: the row's maximum and the logarithm are added before they are
    taken off. -/
def lsm (O : FVec Ideal S10000x128 .f32) : FVec Ideal S10000x128 .f32 := fun i =>
  O (ix2 (i 0) (i 1)) - (Finset.fold max (Ideal.ofBits .f32 0xFF800000#32) (fun x : Fin 128 => O (ix2 (i 0) x)) Finset.univ
    + Ideal.log (∑ x : Fin 128, Ideal.exp (O (ix2 (i 0) x)
      - Finset.fold max (Ideal.ofBits .f32 0xFF800000#32) (fun z : Fin 128 => O (ix2 (i 0) z)) Finset.univ)))

/-- The second region copies the adjacency matrix. -/
theorem final1_7 (c : Dev nD) : (dat1 V c).arrAt 7 cfg1.N = (V c main_arg1 : FVec Ideal S10000x10000 .f32) := by
  refine (dat1 V c).arrAt_eq_of_covers 7 _ (by decide +kernel) fun t _ y => ?_
  blk_simp
  rw [after1_7]; frame_out
  pointwise [k1_pay1]
  blk_point [iblk1, idx1 t]

theorem final1_6 (c : Dev nD) : (dat1 V c).arrAt 6 cfg1.N
    = scaled (act (V c main_arg1) (V c main_v0) (V c main_v1) (V c main_v2) (V c main_v3)) (V c main_arg6) := by
  refine (dat1 V c).arrAt_eq_of_covers 6 _ (by decide +kernel) fun t _ y => ?_
  blk_simp
  rw [after1_6]; frame_out
  pointwise [k1_pay2, scaled, act, invStd]
  blk_point [iblk1, idx1 t]

theorem final2 (c : Dev nD) : (dat2 V c).arrAt 6 cfg2.N
    = lsm (logits (V c main_v4_1) (V c main_v4_0) (V c main_v6) (V c main_v7) (V c main_v8) (V c main_v5)) := by
  refine (dat2 V c).arrAt_eq_of_covers 6 _ (by decide +kernel) fun t _ y => ?_
  blk_simp
  rw [after2_6]; frame_out
  pointwise [k2_pay1, lsm, logits, invStd]
  blk_point [iblk2, idx2 t]

end Cert.KernelIdeal.Value

end
-- ==== Proof.Run.lean ====
/- The idealized kernel's run: its result array ends at the regions' formulas composed over the argument arrays. -/
module

public import proofs.«01_k».proof.Proof.Regions

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- A vector of 128 lanes as a row. -/
def row (v : FVec Ideal S128 .f32) : FVec Ideal S1x128 .f32 := fun i => v (ix1 (i 1))

/-- The reshape of a vector to one row is that row. -/
theorem shapeCast_row (v : FVec Ideal S128 .f32) : shapeCast S1x128 v shapeCasts_S128_S1x128 = row v := by
  funext i
  pointwise [row]

/-- The result as a function of the arguments. -/
def value (x : FVec Ideal S10000x128 .f32) (adj : FVec Ideal S10000x10000 .f32) (W1 : FVec Ideal S128x128 .f32)
    (b1 g1 be1 : FVec Ideal S128 .f32) (W2 : FVec Ideal S128x128 .f32) (b2 g2 be2 : FVec Ideal S128 .f32) :
    FVec Ideal S10000x128 .f32 :=
  lsm (logits adj (scaled (act adj (prod x W1) (row g1) (row b1) (row be1)) W2) (row g2) (row b2) (row be2)
    (fun _ => Ideal.ofBits .f32 0x3F800000#32))

/-- The result array's contents, from the launch memory. -/
def result (m : (ℓ : Loc nD τ sig) → Buf (Elt Ideal) ℓ) (c : Dev nD) : Buf (Elt Ideal) ((c.tc : Thread nD τ).loc main_v9) :=
  value (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))

section Read

variable (m : (ℓ : Loc nD τ sig) → Buf (Elt Ideal) ℓ) (ρ : Dev nD → PrngReg)

/-! ### The arrays that the second region finds -/

theorem V1_main_v0 (c : Dev nD) : V1 m ρ c main_v0
    = prod (m ((c.tc : Thread nD τ).loc main_arg0)) (m ((c.tc : Thread nD τ).loc main_arg2)) :=
  (hF0 m ρ c 2).symm.trans (final0 (V0 m ρ) c)

theorem V2_main_v0 (c : Dev nD) : V2 m ρ c main_v0
    = prod (m ((c.tc : Thread nD τ).loc main_arg0)) (m ((c.tc : Thread nD τ).loc main_arg2)) :=
  (W2_of m ρ c main_v0 (by decide)).trans (V1_main_v0 m ρ c)

theorem V2_main_v1 (c : Dev nD) : V2 m ρ c main_v1 = row (m ((c.tc : Thread nD τ).loc main_arg4)) := by
  have h : V2 m ρ c main_v1 = shapeCast S1x128 (W1 m ρ c (Proc.devRef .tc main_arg4)) shapeCasts_S128_S1x128 := by
    show StableHlo.after hostOps1 (W1 m ρ c) (Proc.devRef .tc main_v1) = _
    after_results_simp
    rfl
  rw [h, W1_args m ρ c main_arg4 (by decide)]
  exact shapeCast_row _

theorem V2_main_v2 (c : Dev nD) : V2 m ρ c main_v2 = row (m ((c.tc : Thread nD τ).loc main_arg3)) := by
  have h : V2 m ρ c main_v2 = shapeCast S1x128 (W1 m ρ c (Proc.devRef .tc main_arg3)) shapeCasts_S128_S1x128 := by
    show StableHlo.after hostOps1 (W1 m ρ c) (Proc.devRef .tc main_v2) = _
    after_results_simp
    rfl
  rw [h, W1_args m ρ c main_arg3 (by decide)]
  exact shapeCast_row _

theorem V2_main_v3 (c : Dev nD) : V2 m ρ c main_v3 = row (m ((c.tc : Thread nD τ).loc main_arg5)) := by
  have h : V2 m ρ c main_v3 = shapeCast S1x128 (W1 m ρ c (Proc.devRef .tc main_arg5)) shapeCasts_S128_S1x128 := by
    show StableHlo.after hostOps1 (W1 m ρ c) (Proc.devRef .tc main_v3) = _
    after_results_simp
    rfl
  rw [h, W1_args m ρ c main_arg5 (by decide)]
  exact shapeCast_row _

/-! ### The arrays that the third region finds -/

theorem V4_main_v4_1 (c : Dev nD) : V4 m ρ c main_v4_1 = (m ((c.tc : Thread nD τ).loc main_arg1) : FVec Ideal S10000x10000 .f32) :=
  (W4_of m ρ c main_v4_1 (by decide)).trans ((hF1 m ρ c 7).symm.trans ((final1_7 (V2 m ρ) c).trans
    (W2_args m ρ c main_arg1 (by decide))))

theorem V4_main_v4_0 (c : Dev nD) : V4 m ρ c main_v4_0
    = scaled (act (m ((c.tc : Thread nD τ).loc main_arg1))
        (prod (m ((c.tc : Thread nD τ).loc main_arg0)) (m ((c.tc : Thread nD τ).loc main_arg2)))
        (row (m ((c.tc : Thread nD τ).loc main_arg4))) (row (m ((c.tc : Thread nD τ).loc main_arg3)))
        (row (m ((c.tc : Thread nD τ).loc main_arg5)))) (m ((c.tc : Thread nD τ).loc main_arg6)) := by
  refine (W4_of m ρ c main_v4_0 (by decide)).trans ((hF1 m ρ c 6).symm.trans ((final1_6 (V2 m ρ) c).trans ?_))
  rw [V2_main_v0, V2_main_v1, V2_main_v2, V2_main_v3]
  rw [show V2 m ρ c main_arg1 = m ((c.tc : Thread nD τ).loc main_arg1) from W2_args m ρ c main_arg1 (by decide),
    show V2 m ρ c main_arg6 = m ((c.tc : Thread nD τ).loc main_arg6) from W2_args m ρ c main_arg6 (by decide)]

theorem V4_main_v5 (c : Dev nD) : V4 m ρ c main_v5 = fun _ => Ideal.ofBits .f32 0x3F800000#32 := by
  have h : V4 m ρ c main_v5 = broadcastInDim S1x128 ![] bcast_S_S1x128 (constant (F := Ideal) S_ .f32 0x3F800000#32) := by
    show StableHlo.after hostOps2 (W3 m ρ c) (Proc.devRef .tc main_v5) = _
    after_results_simp
  rw [h]
  funext i
  pointwise []

theorem V4_main_v6 (c : Dev nD) : V4 m ρ c main_v6 = row (m ((c.tc : Thread nD τ).loc main_arg8)) := by
  have h : V4 m ρ c main_v6 = shapeCast S1x128 (W3 m ρ c (Proc.devRef .tc main_arg8)) shapeCasts_S128_S1x128 := by
    show StableHlo.after hostOps2 (W3 m ρ c) (Proc.devRef .tc main_v6) = _
    after_results_simp
    rfl
  rw [h, W3_args m ρ c main_arg8 (by decide)]
  exact shapeCast_row _

theorem V4_main_v7 (c : Dev nD) : V4 m ρ c main_v7 = row (m ((c.tc : Thread nD τ).loc main_arg7)) := by
  have h : V4 m ρ c main_v7 = shapeCast S1x128 (W3 m ρ c (Proc.devRef .tc main_arg7)) shapeCasts_S128_S1x128 := by
    show StableHlo.after hostOps2 (W3 m ρ c) (Proc.devRef .tc main_v7) = _
    after_results_simp
    rfl
  rw [h, W3_args m ρ c main_arg7 (by decide)]
  exact shapeCast_row _

theorem V4_main_v8 (c : Dev nD) : V4 m ρ c main_v8 = row (m ((c.tc : Thread nD τ).loc main_arg9)) := by
  have h : V4 m ρ c main_v8 = shapeCast S1x128 (W3 m ρ c (Proc.devRef .tc main_arg9)) shapeCasts_S128_S1x128 := by
    show StableHlo.after hostOps2 (W3 m ρ c) (Proc.devRef .tc main_v8) = _
    after_results_simp
    rfl
  rw [h, W3_args m ρ c main_arg9 (by decide)]
  exact shapeCast_row _

/-- At the end of the run the result array holds the value of the arguments. -/
theorem W5_main_v9 (c : Dev nD) : W5 m ρ c (Proc.devRef .tc main_v9) = result m c := by
  refine (W5_arr m ρ c 6).trans ((final2 (V4 m ρ) c).trans ?_)
  rw [V4_main_v4_1, V4_main_v4_0, V4_main_v5, V4_main_v6, V4_main_v7, V4_main_v8]
  rfl

end Read

-- the launch lemma's implicit arguments are found by unifying its conclusion with the theorem's, which takes unfolding
-- plain definitions in a metavariable's type
set_option backward.isDefEq.respectTransparency.types false in
/-- From any memory with zero counters every weakly fair execution of the idealized kernel terminates, nothing faulting,
    with the result array at `result` and the argument arrays unchanged. -/
theorem run (m : (ℓ : Loc nD τ sig) → Buf (Elt Ideal) ℓ) (ρ : Dev nD → PrngReg) : θ_run defs (onTc (τ := τ) (main (F := Ideal))) ⟨m, fun _ => 0, ρ⟩ (fun r => ∀ c : Dev nD,
      r.2.mem ((c.tc : Thread nD τ).loc main_v9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨(h c _ (mem_uc main_v9 (by decide))).trans (W5_main_v9 m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c)⟩)

end Cert.KernelIdeal.Value

end
-- ==== Proof.Algebra.lean ====
/- The extended-real facts that the two programs' formulas meet by: constants, closure of the reals under the
   operations, and one layer's batch norm and the log-softmax in their two forms. -/
module

public import Idealize.ShloMosaic.Lib.Pointwise
public import Idealize.ShloMosaic.Lib.IdealHost

@[expose] public section

noncomputable section

namespace Cert.Algebra

open Idealize.ShloMosaic

/-! ### The constants -/

theorem ofBits_eighth : Ideal.ofBits .f32 0x3E000000#32 = ((1 / 8 : ℝ) : EReal) := by
  simp [Ideal.ofBits, Ideal.ieee, -EReal.coe_mul]; norm_num

theorem ofBits_eight : Ideal.ofBits .f32 0x41000000#32 = ((8 : ℝ) : EReal) := by
  simp [Ideal.ofBits, Ideal.ieee, -EReal.coe_mul]; norm_num

theorem ofBits_bot : Ideal.ofBits .f32 0xFF800000#32 = ⊥ := by
  simp [Ideal.ofBits, Ideal.ieee]

theorem ofBits_top : Ideal.ofBits .f32 0x7F800000#32 = ⊤ := by
  simp [Ideal.ofBits, Ideal.ieee]

/-- The reference's `1 + 1e-5`, as its float word. -/
theorem ofBits_var : Ideal.ofBits .f32 0x3F800054#32 = ((2097173 / 2097152 : ℝ) : EReal) := by
  simp [Ideal.ofBits, Ideal.ieee, -EReal.coe_mul]; norm_num

/-- The deviation that the reference divides by. -/
def dev : ℝ := Real.sqrt (2097173 / 2097152)

theorem dev_ne : dev ≠ 0 := (Real.sqrt_pos.mpr (by norm_num)).ne'

theorem sqrt_var : Ideal.sqrt (Ideal.ofBits .f32 0x3F800054#32) = ((dev : ℝ) : EReal) := by
  rw [ofBits_var, Ideal.sqrt_coe, if_neg (by norm_num), dev]

/-! ### Real values -/

/-- The value is a real number. -/
def IsReal (a : EReal) : Prop := ∃ r : ℝ, a = (r : EReal)

theorem isReal_coe (r : ℝ) : IsReal (r : EReal) := ⟨r, rfl⟩

theorem isReal_of_ne {a : EReal} (ht : a ≠ ⊤) (hb : a ≠ ⊥) : IsReal a := ⟨a.toReal, (EReal.coe_toReal ht hb).symm⟩

theorem IsReal.ne_top {a : EReal} (h : IsReal a) : a ≠ ⊤ := by obtain ⟨r, rfl⟩ := h; exact EReal.coe_ne_top r
theorem IsReal.ne_bot {a : EReal} (h : IsReal a) : a ≠ ⊥ := by obtain ⟨r, rfl⟩ := h; exact EReal.coe_ne_bot r

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.max {a b : EReal} (ha : IsReal a) (hb : IsReal b) : IsReal (max a b) := by
  rcases max_choice a b with h | h <;> rw [h] <;> assumption

theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem isReal_sum {n : ℕ} {f : Fin n → EReal} (h : ∀ k, IsReal (f k)) : IsReal (∑ k, f k) := by
  choose r hr using h
  exact ⟨∑ k, r k, by rw [coe_sum]; exact Finset.sum_congr rfl fun k _ => hr k⟩

/-- A real factor leaves a sum of products of reals. -/
theorem sum_mul_scaled {n : ℕ} {f g : Fin n → EReal} (hf : ∀ k, IsReal (f k)) (hg : ∀ k, IsReal (g k)) (e : ℝ) :
    ∑ k, f k * (g k * (e : EReal)) = (∑ k, f k * g k) * (e : EReal) := by
  choose r hr using hf
  choose s hs using hg
  simp only [hr, hs, ← EReal.coe_mul, ← coe_sum]
  norm_cast
  rw [Finset.sum_mul]
  exact Finset.sum_congr rfl fun k _ => by ring

/-- The maximum of a row of reals, from minus infinity, is real. -/
theorem isReal_fold_max {f : Fin 128 → EReal} (h : ∀ k, IsReal (f k)) : IsReal (Finset.fold max ⊥ f Finset.univ) := by
  classical
  have key : ∀ s : Finset (Fin 128), s = ∅ ∨ IsReal (Finset.fold max ⊥ f s) := fun s => by
    induction s using Finset.induction_on with
    | empty => exact .inl rfl
    | insert a s ha ih =>
      rw [Finset.fold_insert ha]
      rcases ih with rfl | ih
      · rw [Finset.fold_empty, max_eq_left bot_le]; exact .inr (h a)
      · exact .inr ((h a).max ih)
  exact (key _).resolve_left (Finset.univ_nonempty.ne_empty)

/-! ### The two forms of a layer -/

/-- Batch norm folded into a scale and a shift is batch norm by a division. -/
theorem norm_folded {a b g be : EReal} (ha : IsReal a) (hb : IsReal b) (hg : IsReal g) (hbe : IsReal be) :
    a * (((dev⁻¹ : ℝ) : EReal) * g) + (b * ((dev⁻¹ : ℝ) : EReal) * g + be) = Ideal.div (a + b) (dev : EReal) * g + be := by
  obtain ⟨a, rfl⟩ := ha; obtain ⟨b, rfl⟩ := hb; obtain ⟨g, rfl⟩ := hg; obtain ⟨be, rfl⟩ := hbe
  rw [Ideal.div_coe dev_ne, one_div]
  norm_cast
  ring

theorem isReal_norm {a b g be : EReal} (ha : IsReal a) (hb : IsReal b) (hg : IsReal g) (hbe : IsReal be) :
    IsReal (Ideal.div (a + b) (dev : EReal) * g + be) := by
  rw [Ideal.div_coe dev_ne]
  exact (((ha.add hb).mul (isReal_coe _)).mul hg).add hbe

/-- The second layer's product of entries divided by eight, times eight times the folded scale. -/
theorem norm_scaled {a b g be : EReal} (ha : IsReal a) (hb : IsReal b) (hg : IsReal g) (hbe : IsReal be) :
    a * ((1 / 8 : ℝ) : EReal) * (((8 : ℝ) : EReal) * (((dev⁻¹ : ℝ) : EReal) * g) * 1) + (b * ((dev⁻¹ : ℝ) : EReal) * g + be)
      = Ideal.div (a + b) (dev : EReal) * g + be := by
  rw [← norm_folded ha hb hg hbe]
  obtain ⟨a, rfl⟩ := ha; obtain ⟨b, rfl⟩ := hb; obtain ⟨g, rfl⟩ := hg; obtain ⟨be, rfl⟩ := hbe
  rw [mul_one]
  norm_cast
  ring

/-- The row's maximum and the logarithm of the row's sum of exponentials may be taken off one after the other. -/
theorem log_softmax {f : Fin 128 → EReal} (h : ∀ k, IsReal (f k)) (o m : EReal) (ho : IsReal o) (hm : IsReal m) :
    o - (m + Ideal.log (∑ k, Ideal.exp (f k - m))) = o - m - Ideal.log (∑ k, Ideal.exp (f k - m)) := by
  choose r hr using h
  obtain ⟨o, rfl⟩ := ho
  obtain ⟨m, rfl⟩ := hm
  have hs : ∑ k, Ideal.exp (f k - (m : EReal)) = ((∑ k, Real.exp (r k - m) : ℝ) : EReal) := by
    rw [coe_sum]
    exact Finset.sum_congr rfl fun k _ => by rw [hr, ← EReal.coe_sub, Ideal.exp_coe]
  have hp : 0 < ∑ k, Real.exp (r k - m) := Finset.sum_pos (fun k _ => Real.exp_pos _) Finset.univ_nonempty
  rw [hs, Ideal.log_coe, if_neg hp.not_ge]
  norm_cast
  ring

/-- A value whose magnitude compares below infinity is real. -/
theorem isReal_of_olt {a : EReal} (h : Ideal.cmp .olt (max a (-a)) (Ideal.ofBits .f32 0x7F800000#32) = 1#1) : IsReal a := by
  rw [ofBits_top] at h
  refine isReal_of_ne ?_ ?_ <;> rintro rfl <;> simp [Ideal.cmp] at h

end Cert.Algebra
-- ==== Proof.Finite.lean ====
/- The precondition `finite` read at an index: every entry of every argument is a real number. -/
module

public import proofs.«01_k».proof.Proof.Algebra
public import proofs.«01_k».proof.Proof.Gen.Pre_finite
public import Idealize.ShloMosaic.Lib.ReduceAll
public import Idealize.ShloMosaic.Lib.Affine

@[expose] public section

noncomputable section

namespace Cert.Pre_finite

open Idealize.ShloMosaic Cert.Algebra Cert.Pre_finite.Gen

instance : Subsingleton S_.Idx := ⟨fun _ _ => funext fun k => k.elim0⟩

variable {x : FVec Ideal S10000x128 .f32} {adj : FVec Ideal S10000x10000 .f32} {W1 : FVec Ideal S128x128 .f32}
    {b1 g1 be1 : FVec Ideal S128 .f32} {W2 : FVec Ideal S128x128 .f32} {b2 g2 be2 : FVec Ideal S128 .f32}

/-- One argument's part of the precondition. -/
theorem isReal_of_all {s : Shape} {axes : List (Fin s.rank)} (v : FVec Ideal s .f32) (hb : S_.BroadcastsInDim s (![] : Fin 0 → Fin s.rank))
    (hr : s.ReducesTo axes S_) (h : Host.reduce IntOp.andi
      (cmpf .olt (Host.absf v) (broadcastInDim s ![] hb (constant (F := Ideal) S_ .f32 0x7F800000#32)))
      (constantI S_ 1 1#1) hr h_S_ ix0 = 1#1) (i : s.Idx) : IsReal (v i) :=
  isReal_of_olt (Host.reduce_andi_all _ _ hr h_S_ ix0 h i)

theorem isReal (h : fn (F := Ideal) x adj W1 b1 g1 be1 W2 b2 g2 be2 = fun _ => 1#1) :
    (∀ i, IsReal (x i)) ∧ (∀ i, IsReal (adj i)) ∧ (∀ i, IsReal (W1 i)) ∧ (∀ i, IsReal (W2 i)) ∧ (∀ i, IsReal (b1 i))
      ∧ (∀ i, IsReal (g1 i)) ∧ (∀ i, IsReal (be1 i)) ∧ (∀ i, IsReal (b2 i)) ∧ (∀ i, IsReal (g2 i)) ∧ (∀ i, IsReal (be2 i)) := by
  have e := congrFun h ix0
  dsimp only [fn, fn_part1, fn_part2] at e
  obtain ⟨e, h9⟩ := IntOp.andi_eq_one.1 e
  obtain ⟨e, h8⟩ := IntOp.andi_eq_one.1 e
  obtain ⟨e, h7⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h6⟩ := IntOp.andi_eq_one.1 e
  obtain ⟨e, h2⟩ := IntOp.andi_eq_one.1 e
  obtain ⟨h0, h1⟩ := IntOp.andi_eq_one.1 e
  exact ⟨isReal_of_all _ _ _ h0, isReal_of_all _ _ _ h1, isReal_of_all _ _ _ h2, isReal_of_all _ _ _ h6,
    isReal_of_all _ _ _ h3, isReal_of_all _ _ _ h4, isReal_of_all _ _ _ h5, isReal_of_all _ _ _ h7,
    isReal_of_all _ _ _ h8, isReal_of_all _ _ _ h9⟩

end Cert.Pre_finite
-- ==== Proof.Reference.lean ====
/- The reference's result as a formula in its arguments, and that the kernel's formula is the same function of finite
   arguments. -/
module

public import proofs.«01_k».proof.Proof.Gen.ReferenceIdeal.Read
public import proofs.«01_k».proof.Proof.Run
public import proofs.«01_k».proof.Proof.Algebra

@[expose] public section

set_option maxRecDepth 16384

noncomputable section

namespace Cert.ReferenceIdeal.Formula

open Cert.ReferenceIdeal Cert.ReferenceIdeal.Read Cert.ReferenceIdeal.Gen Idealize.ShloMosaic Cert.Algebra

variable (x : FVec Ideal S10000x128 .f32) (adj : FVec Ideal S10000x10000 .f32) (W1 : FVec Ideal S128x128 .f32)
    (b1 g1 be1 : FVec Ideal S128 .f32) (W2 : FVec Ideal S128x128 .f32) (b2 g2 be2 : FVec Ideal S128 .f32)

/-! ### The reference at an index -/

/-- The one entry of the deviation that the reference divides by. -/
theorem dev_entry : id (Host.sqrt (constant (F := Ideal) S_ .f32 0x3F800054#32)) ix0 = ((dev : ℝ) : EReal) := sqrt_var

/-- The first layer's activations. -/
theorem hidden (i : S10000x128.Idx) : val_main_v15 (F := Ideal) x adj W1 b1 g1 be1 i
    = max (Ideal.div ((∑ k : Fin 10000, adj (ix2 (i 0) k) * ∑ l : Fin 128, x (ix2 k l) * W1 (ix2 l (i 1))) + b1 (ix1 (i 1)))
        (dev : EReal) * g1 (ix1 (i 1)) + be1 (ix1 (i 1))) 0 := by
  pointwise [val_main_v15, val_main_v14, val_main_v13, val_main_v12, val_main_v11, val_main_v10, val_main_v9, val_main_v8,
    val_main_v7, val_main_v6, val_main_v5, val_main_v4, val_main_v3, val_main_v2, val_main_v1, val_main_v0, val_main_cst,
    val_main_call0_v0, val_main_call0_cst]
  rw [dev_entry]

/-- The second layer's normalised rows, in the first layer's activations. -/
theorem normed (i : S10000x128.Idx) : val_main_v30 (F := Ideal) x adj W1 b1 g1 be1 W2 b2 g2 be2 i
    = Ideal.div ((∑ k : Fin 10000, adj (ix2 (i 0) k)
          * ∑ l : Fin 128, val_main_v15 (F := Ideal) x adj W1 b1 g1 be1 (ix2 k l) * W2 (ix2 l (i 1))) + b2 (ix1 (i 1)))
        (dev : EReal) * g2 (ix1 (i 1)) + be2 (ix1 (i 1)) := by
  pointwise [val_main_v30, val_main_v29, val_main_v28, val_main_v27, val_main_v26, val_main_v25, val_main_v24, val_main_v23,
    val_main_v22, val_main_v21, val_main_v20, val_main_v19, val_main_v18, val_main_v17, val_main_v16, val_main_cst_0]
  rw [dev_entry]

/-- The result, in the second layer's normalised rows. -/
theorem result (i : S10000x128.Idx) : val_main_v31 (F := Ideal) x adj W1 b1 g1 be1 W2 b2 g2 be2 i
    = val_main_v30 (F := Ideal) x adj W1 b1 g1 be1 W2 b2 g2 be2 (ix2 (i 0) (i 1))
        - Finset.fold max ⊥ (fun k : Fin 128 => val_main_v30 (F := Ideal) x adj W1 b1 g1 be1 W2 b2 g2 be2 (ix2 (i 0) k)) Finset.univ
        - Ideal.log (∑ l : Fin 128, Ideal.exp (val_main_v30 (F := Ideal) x adj W1 b1 g1 be1 W2 b2 g2 be2 (ix2 (i 0) l)
          - Finset.fold max ⊥ (fun k : Fin 128 => val_main_v30 (F := Ideal) x adj W1 b1 g1 be1 W2 b2 g2 be2 (ix2 (i 0) k))
              Finset.univ)) := by
  pointwise [val_main_v31, val_main_call1_v10, val_main_call1_v9, val_main_call1_v8, val_main_call1_v7, val_main_call1_v6,
    val_main_call1_v5, val_main_call1_v4, val_main_call1_v3, val_main_call1_v2, val_main_call1_v1, val_main_call1_v0,
    val_main_call1_cst, val_main_call1_cst_0, val_main_call1_cst_1]
  simp only [ofBits_bot, bot_le, max_eq_right]

/-! ### The kernel's formula is the reference's -/

/-- The named constant is the reciprocal of the deviation. -/
theorem invStd_eq : Cert.KernelIdeal.Value.invStd = ((dev⁻¹ : ℝ) : EReal) :=
  IdealRules.named_const.ideal_named_scalar _ _ _ _ rfl

section Equal

variable {x adj W1 b1 g1 be1 W2 b2 g2 be2}
variable (hx : ∀ i, IsReal (x i)) (hadj : ∀ i, IsReal (adj i)) (hW1 : ∀ i, IsReal (W1 i)) (hW2 : ∀ i, IsReal (W2 i))
    (hb1 : ∀ i, IsReal (b1 i)) (hg1 : ∀ i, IsReal (g1 i)) (hbe1 : ∀ i, IsReal (be1 i))
    (hb2 : ∀ i, IsReal (b2 i)) (hg2 : ∀ i, IsReal (g2 i)) (hbe2 : ∀ i, IsReal (be2 i))

open Cert.KernelIdeal.Value (prod act scaled logits lsm row value)

include hx hadj hW1 in
/-- The first layer's aggregated rows are real. -/
theorem isReal_aggregate (i : S10000x128.Idx) :
    IsReal (∑ k : Fin 10000, adj (ix2 (i 0) k) * ∑ l : Fin 128, x (ix2 k l) * W1 (ix2 l (i 1))) :=
  isReal_sum fun k => (hadj _).mul (isReal_sum fun l => (hx _).mul (hW1 _))

include hx hadj hW1 hb1 hg1 hbe1 in
theorem isReal_hidden (i : S10000x128.Idx) : IsReal (val_main_v15 (F := Ideal) x adj W1 b1 g1 be1 i) := by
  rw [hidden]
  exact (isReal_norm (isReal_aggregate hx hadj hW1 i) (hb1 _) (hg1 _) (hbe1 _)).max (isReal_coe 0)

include hx hadj hW1 hb1 hg1 hbe1 in
theorem act_eq : act adj (prod x W1) (row g1) (row b1) (row be1) = val_main_v15 (F := Ideal) x adj W1 b1 g1 be1 := by
  funext i
  rw [hidden, ← norm_folded (isReal_aggregate hx hadj hW1 i) (hb1 _) (hg1 _) (hbe1 _), ← invStd_eq]
  rfl

include hx hadj hW1 hb1 hg1 hbe1 hW2 in
/-- The second layer's support is real. -/
theorem isReal_support (i : S10000x128.Idx) :
    IsReal (∑ l : Fin 128, val_main_v15 (F := Ideal) x adj W1 b1 g1 be1 (ix2 (i 0) l) * W2 (ix2 l (i 1))) :=
  isReal_sum fun l => (isReal_hidden hx hadj hW1 hb1 hg1 hbe1 _).mul (hW2 _)

include hx hadj hW1 hb1 hg1 hbe1 hW2 in
theorem isReal_aggregate2 (i : S10000x128.Idx) :
    IsReal (∑ k : Fin 10000, adj (ix2 (i 0) k)
      * ∑ l : Fin 128, val_main_v15 (F := Ideal) x adj W1 b1 g1 be1 (ix2 k l) * W2 (ix2 l (i 1))) :=
  isReal_sum fun k => (hadj _).mul (isReal_support hx hadj hW1 hW2 hb1 hg1 hbe1 (ix2 k (i 1)))

include hx hadj hW1 hb1 hg1 hbe1 hW2 hb2 hg2 hbe2 in
theorem isReal_normed (i : S10000x128.Idx) : IsReal (val_main_v30 (F := Ideal) x adj W1 b1 g1 be1 W2 b2 g2 be2 i) := by
  rw [normed]
  exact isReal_norm (isReal_aggregate2 hx hadj hW1 hW2 hb1 hg1 hbe1 i) (hb2 _) (hg2 _) (hbe2 _)

include hx hadj hW1 hb1 hg1 hbe1 hW2 hb2 hg2 hbe2 in
theorem logits_eq : logits adj (scaled (val_main_v15 (F := Ideal) x adj W1 b1 g1 be1) W2) (row g2) (row b2) (row be2)
      (fun _ => Ideal.ofBits .f32 0x3F800000#32) = val_main_v30 (F := Ideal) x adj W1 b1 g1 be1 W2 b2 g2 be2 := by
  funext i
  have hs : ∑ k : Fin 10000, adj (ix2 (i 0) k)
        * ((∑ l : Fin 128, val_main_v15 (F := Ideal) x adj W1 b1 g1 be1 (ix2 k l) * W2 (ix2 l (i 1))) * ((1 / 8 : ℝ) : EReal))
      = (∑ k : Fin 10000, adj (ix2 (i 0) k)
        * ∑ l : Fin 128, val_main_v15 (F := Ideal) x adj W1 b1 g1 be1 (ix2 k l) * W2 (ix2 l (i 1))) * ((1 / 8 : ℝ) : EReal) :=
    sum_mul_scaled (fun k => hadj _) (fun k => isReal_support hx hadj hW1 hW2 hb1 hg1 hbe1 (ix2 k (i 1))) _
  rw [normed, ← norm_scaled (isReal_aggregate2 hx hadj hW1 hW2 hb1 hg1 hbe1 i) (hb2 _) (hg2 _) (hbe2 _), ← invStd_eq,
    ← hs, ← ofBits_eighth, ← ofBits_eight, ← Ideal.ofBits_one_f32]
  rfl

include hx hadj hW1 hb1 hg1 hbe1 hW2 hb2 hg2 hbe2 in
/-- Of finite arguments the kernel's result is the reference's. -/
theorem value_eq : value x adj W1 b1 g1 be1 W2 b2 g2 be2 = val_main_v31 (F := Ideal) x adj W1 b1 g1 be1 W2 b2 g2 be2 := by
  unfold value
  rw [act_eq hx hadj hW1 hb1 hg1 hbe1, logits_eq hx hadj hW1 hW2 hb1 hg1 hbe1 hb2 hg2 hbe2]
  have hr := isReal_normed hx hadj hW1 hW2 hb1 hg1 hbe1 hb2 hg2 hbe2
  funext i
  rw [result, ← log_softmax (fun k => hr _) _ _ (hr _) (isReal_fold_max fun k => hr _), lsm]
  simp only [ofBits_bot]

end Equal

end Cert.ReferenceIdeal.Formula
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Gen.ReferenceIdeal.Read
public import proofs.«01_k».proof.Proof.Run
public import proofs.«01_k».proof.Proof.Finite
public import proofs.«01_k».proof.Proof.Reference
public import Idealize.ShloMosaic.Adequacy
public import Idealize.ShloMosaic.Init

@[expose] public section

noncomputable section

namespace Cert.Proof

open Idealize.ShloMosaic Idealize.SL.Sem

/-! The claims are stated over the programs' side conditions, which the generated modules prove. -/

theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- From finite arguments the idealized kernel and the reference end with the same array. -/
theorem algebraic : Cert.algebraic_KernelIdeal_ReferenceIdeal_pre_finite := by
  intro m g m' g' hpre hagree
  refine ⟨_, Cert.KernelIdeal.Value.run m g, ?_⟩
  refine (θ_run Cert.ReferenceIdeal.defs _ _).mono (fun r h c => ⟨(h c).1.trans ?_, (h c).2⟩)
    (Cert.ReferenceIdeal.Value.run (F := Ideal) m' g')
  obtain ⟨a0, a1, a2, a3, a4, a5, a6, a7, a8, a9⟩ := hagree c
  obtain ⟨hx, hadj, hW1, hW2, hb1, hg1, hbe1, hb2, hg2, hbe2⟩ := Cert.Pre_finite.isReal (hpre c)
  rw [Cert.ReferenceIdeal.Read.val_main_v31_eq, a0, a1, a2, a3, a4, a5, a6, a7, a8, a9]
  exact (Cert.ReferenceIdeal.Formula.value_eq hx hadj hW1 hW2 hb1 hg1 hbe1 hb2 hg2 hbe2).symm

theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    IdealRules.named_const.statement Cert.KernelIdeal.κ "inv_std" .f32 0x3F7FFFAC#32
      (((Real.sqrt (2097173 / 2097152))⁻¹ : ℝ) : EReal) rfl,
    algebraic⟩

end Cert.Proof

end
